-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x32x32 : Shape := ⟨4, ![8, 256, 32, 32]⟩
abbrev S128x256 : Shape := ⟨2, ![128, 256]⟩
abbrev S8x512x1024 : Shape := ⟨3, ![8, 512, 1024]⟩
abbrev S512x1024 : Shape := ⟨2, ![512, 1024]⟩
abbrev S_ : Shape := ⟨0, ![]⟩
abbrev S32x1024 : Shape := ⟨2, ![32, 1024]⟩
abbrev S32x256 : Shape := ⟨2, ![32, 256]⟩
abbrev S256x1024 : Shape := ⟨2, ![256, 1024]⟩
abbrev S1x256x1024 : Shape := ⟨3, ![1, 256, 1024]⟩
abbrev S8x512x32x32 : Shape := ⟨4, ![8, 512, 32, 32]⟩

abbrev nBuf : Space → Nat
  | .hbm => 5
  | .vmem => 3
  | .smem => 0
  | _ => 0

abbrev bufTy : (tb : Table) → Fin (tcTables nBuf tb) → BufTy
  | .hbm, ⟨0, _⟩ => ⟨S8x256x32x32, .f32⟩
  | .hbm, ⟨1, _⟩ => ⟨S128x256, .f32⟩
  | .hbm, ⟨2, _⟩ => ⟨S128x256, .f32⟩
  | .hbm, ⟨3, _⟩ => ⟨S8x512x1024, .f32⟩
  | .hbm, ⟨4, _⟩ => ⟨S8x512x32x32, .f32⟩
  | .local _ .vmem, ⟨0, _⟩ => ⟨S128x256, .f32⟩
  | .local _ .vmem, ⟨1, _⟩ => ⟨S128x256, .f32⟩
  | .local _ .vmem, ⟨2, _⟩ => ⟨S512x1024, .f32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x256x32x32 : Shape := ⟨4, ![8, 256, 32, 32]⟩
abbrev S128x256 : Shape := ⟨2, ![128, 256]⟩
abbrev S32 : Shape := ⟨1, ![32]⟩
abbrev S_ : Shape := ⟨0, ![]⟩
abbrev S32x1 : Shape := ⟨2, ![32, 1]⟩
abbrev S1 : Shape := ⟨1, ![1]⟩
abbrev S1x1 : Shape := ⟨2, ![1, 1]⟩
abbrev S32x256 : Shape := ⟨2, ![32, 256]⟩
abbrev S1x32x256 : Shape := ⟨3, ![1, 32, 256]⟩
abbrev S32x32x256 : Shape := ⟨3, ![32, 32, 256]⟩
abbrev S32x1x256 : Shape := ⟨3, ![32, 1, 256]⟩
abbrev S32x32x512 : Shape := ⟨3, ![32, 32, 512]⟩
abbrev S512x32x32 : Shape := ⟨3, ![512, 32, 32]⟩
abbrev S1x512x32x32 : Shape := ⟨4, ![1, 512, 32, 32]⟩
abbrev S8x512x32x32 : Shape := ⟨4, ![8, 512, 32, 32]⟩

abbrev nBuf : Space → Nat
  | .hbm => 59
  | .vmem => 0
  | .smem => 0
  | _ => 0

abbrev bufTy : (tb : Table) → Fin (tcTables nBuf tb) → BufTy
  | .hbm, ⟨0, _⟩ => ⟨S8x256x32x32, .f32⟩
  | .hbm, ⟨1, _⟩ => ⟨S128x256, .f32⟩
  | .hbm, ⟨2, _⟩ => ⟨S128x256, .f32⟩
  | .hbm, ⟨3, _⟩ => ⟨S32, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S1, .i32⟩
  | .hbm, ⟨14, _⟩ => ⟨S_, .i32⟩
  | .hbm, ⟨15, _⟩ => ⟨S32x1, .i32⟩
  | .hbm, ⟨16, _⟩ => ⟨S32x1, .i1⟩
  | .hbm, ⟨17, _⟩ => ⟨S1x1, .i32⟩
  | .hbm, ⟨18, _⟩ => ⟨S32x1, .i32⟩
  | .hbm, ⟨19, _⟩ => ⟨S32x1, .i1⟩
  | .hbm, ⟨20, _⟩ => ⟨S32x1, .i1⟩
  | .hbm, ⟨21, _⟩ => ⟨S_, .i1⟩
  | .hbm, ⟨22, _⟩ => ⟨S32, .i1⟩
  | .hbm, ⟨23, _⟩ => ⟨S32x256, .f32⟩
  | .hbm, ⟨24, _⟩ => ⟨S32x256, .i1⟩
  | .hbm, ⟨25, _⟩ => ⟨S_, .f32⟩
  | .hbm, ⟨26, _⟩ => ⟨S32x256, .f32⟩
  | .hbm, ⟨27, _⟩ => ⟨S32x256, .f32⟩
  | .hbm, ⟨28, _⟩ => ⟨S_, .i32⟩
  | .hbm, ⟨29, _⟩ => ⟨S32, .i32⟩
  | .hbm, ⟨30, _⟩ => ⟨S32, .i1⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S32, .i32⟩
  | .hbm, ⟨35, _⟩ => ⟨S32x1, .i32⟩
  | .hbm, ⟨36, _⟩ => ⟨S1, .i32⟩
  | .hbm, ⟨37, _⟩ => ⟨S_, .i32⟩
  | .hbm, ⟨38, _⟩ => ⟨S32x1, .i32⟩
  | .hbm, ⟨39, _⟩ => ⟨S32x1, .i1⟩
  | .hbm, ⟨40, _⟩ => ⟨S1x1, .i32⟩
  | .hbm, ⟨41, _⟩ => ⟨S32x1, .i32⟩
  | .hbm, ⟨42, _⟩ => ⟨S32x1, .i1⟩
  | .hbm, ⟨43, _⟩ => ⟨S32x1, .i1⟩
  | .hbm, ⟨44, _⟩ => ⟨S_, .i1⟩
  | .hbm, ⟨45, _⟩ => ⟨S32, .i1⟩
  | .hbm, ⟨46, _⟩ => ⟨S32x256, .f32⟩
  | .hbm, ⟨47, _⟩ => ⟨S32x256, .i1⟩
  | .hbm, ⟨48, _⟩ => ⟨S_, .f32⟩
  | .hbm, ⟨49, _⟩ => ⟨S32x256, .f32⟩
  | .hbm, ⟨50, _⟩ => ⟨S32x256, .f32⟩
  | .hbm, ⟨51, _⟩ => ⟨S1x32x256, .f32⟩
  | .hbm, ⟨52, _⟩ => ⟨S32x32x256, .f32⟩
  | .hbm, ⟨53, _⟩ => ⟨S32x1x256, .f32⟩
  | .hbm, ⟨54, _⟩ => ⟨S32x32x256, .f32⟩
  | .hbm, ⟨55, _⟩ => ⟨S32x32x512, .f32⟩
  | .hbm, ⟨56, _⟩ => ⟨S512x32x32, .f32⟩
  | .hbm, ⟨57, _⟩ => ⟨S1x512x32x32, .f32⟩
  | .hbm, ⟨58, _⟩ => ⟨S8x512x32x32, .f32⟩
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩

abbrev nD : Nat := 1
abbrev τ : Topo := Topo.v7x

variable {F : FTy → Type} [FloatOps F]
-- ==== Proof.Plane.lean ====
/-
  What the kernel's memory holds, stated without the program: the plane the body fills, the result it copies the plane
  into, and what the sixteen copies leave. Nothing here depends on which numbers a float is, so every statement is for an
  arbitrary arithmetic `F`.
-/
module

public import proofs.«01_k».proof.Proof.Gen.KernelIdeal.Skeleton
public import Idealize.ShloMosaic.Lib.PointwiseCore
public import Idealize.ShloMosaic.Lib.Writes
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## The contents -/

/-- The first 32 rows of an embedding table: the part the body loads. -/
def top32 (x : Vec F S128x256 .f32) : Vec F S32x256 .f32 :=
  fun y => x ((Rect.unit (s := S128x256) ![0, 0] S32x256.size inb_S128x256_S32x256_0_0).toLoadRect.idx y)

/-- The plane, by feature and position: features below 256 are the product computed from the column table, the others the
    product computed from the row table. -/
def planeOf (row col : Vec F S128x256 .f32) : Vec F S512x1024 .f32 := fun j =>
  if h : (j 0).val < 256 then k0_pay1 (top32 col) (ix2 ⟨(j 0).val, h⟩ (j 1))
  else k0_pay2 (top32 row) (ix2 ⟨(j 0).val - 256, by have : (j 0).val < 512 := (j 0).isLt; omega⟩ (j 1))

/-- The result the copies leave in the large memory: the plane once for each of the eight batch entries. -/
def resOf (row col : Vec F S128x256 .f32) : Vec F S8x512x1024 .f32 :=
  fun j => planeOf row col (ix2 (j 1) (j 2))

theorem planeOf_lo (row col : Vec F S128x256 .f32) (d : Fin 256) (l : Fin 1024) :
    planeOf row col (ix2 ⟨d.val, by omega⟩ l) = k0_pay1 (top32 col) (ix2 d l) :=
  dif_pos d.isLt

theorem planeOf_hi (row col : Vec F S128x256 .f32) (d : Fin 256) (l : Fin 1024) :
    planeOf row col (ix2 ⟨256 + d.val, by omega⟩ l) = k0_pay2 (top32 row) (ix2 d l) := by
  unfold planeOf
  rw [dif_neg (by show ¬ (256 + d.val < 256); omega)]
  congr 2
  exact Fin.ext (by show 256 + d.val - 256 = d.val; omega)

/-! ## The buffers -/

/-- The plane in the fast memory. -/
abbrev planeM : Memref sig .tc .vmem S512x1024 .f32 := Memref.whole cc0_scratch0
/-- The result in the large memory. -/
abbrev resM : Memref sig .tc .hbm S8x512x1024 .f32 := Memref.whole main_v0

/-- The 256 rows of the plane from row `o`. -/
abbrev planeRows (o : Fin 2 → ℕ) (h : ∀ a, o a + S256x1024.size a ≤ S512x1024.size a) : Memref sig .tc .vmem S256x1024 .f32 :=
  planeM.slice (Rect.unit (s := S512x1024) o S256x1024.size h) (fun _ => rfl)
/-- A slab of the result: 256 features of one batch entry. -/
abbrev slab (o : Fin 3 → ℕ) (h : ∀ a, o a + S1x256x1024.size a ≤ S8x512x1024.size a) : Memref sig .tc .hbm S256x1024 .f32 :=
  (resM.slice (Rect.unit (s := S8x512x1024) o S1x256x1024.size h) (fun _ => rfl)).squeeze S256x1024 squeezes_S1x256x1024_S256x1024

/-- The plane's rows below 256. -/
abbrev loRect : Rect S512x1024 := Rect.unit (s := S512x1024) ![0, 0] S256x1024.size inb_S512x1024_S256x1024_0_0
/-- The plane's rows from 256. -/
abbrev hiRect : Rect S512x1024 := Rect.unit (s := S512x1024) ![256, 0] S256x1024.size inb_S512x1024_S256x1024_256_0

/-- Read after a store to the upper rows, those rows are the store's payload, whatever was stored before. -/
theorem read_hi {κ : Kind} {sp : Space} (v : View sig κ sp S512x1024 .f32) (p : v.ty.Contents (Elt F))
    (a b : S256x1024.Idx → Elt F .f32) :
    (v.slice hiRect).read (Elt F) (v.writes (Elt F) p [⟨hiRect, b⟩, ⟨loRect, a⟩]) = b :=
  View.read_write_univ (v := v.slice hiRect) _ _

/-- Read after a store to the lower rows and then one to the upper rows, the lower rows are the first store's payload. -/
theorem read_lo {κ : Kind} {sp : Space} (v : View sig κ sp S512x1024 .f32) (p : v.ty.Contents (Elt F))
    (a b : S256x1024.Idx → Elt F .f32) :
    (v.slice loRect).read (Elt F) (v.writes (Elt F) p [⟨hiRect, b⟩, ⟨loRect, a⟩]) = a := by
  funext x
  have hlt : (loRect.emb x 0).val < 256 := by
    have hx : (x 0).val < 256 := (x 0).isLt
    rw [Rect.emb_apply]
    show 0 + 1 * (x 0).val < 256
    omega
  have h1 : v.read (Elt F) (v.writes (Elt F) p [⟨hiRect, b⟩, ⟨loRect, a⟩]) (loRect.emb x)
      = v.read (Elt F) (v.writes (Elt F) p [⟨loRect, a⟩]) (loRect.emb x) :=
    View.read_writes_cons_miss_of_axis v p ⟨hiRect, b⟩ [⟨loRect, a⟩] (loRect.emb x) 0 256 256 rfl rfl rfl (Or.inl hlt)
  exact h1.trans (congrFun (View.read_write_univ (v := v.slice loRect) p a) x)

/-- A slab lies in the result. -/
theorem slab_inb (i o : ℕ) (hi : i < 8) (ho : o + 256 ≤ 512) :
    ∀ a, (![i, o, 0] : Fin 3 → ℕ) a + S1x256x1024.size a ≤ S8x512x1024.size a
  | ⟨0, _⟩ => hi
  | ⟨1, _⟩ => ho
  | ⟨2, _⟩ => (by decide : 0 + 1024 ≤ 1024)

/-- A copy of `w` into the features from `o` of batch entry `i`, over contents `g`. -/
def copySlab (i o : ℕ) (hi : i < 8) (ho : o + 256 ≤ 512) (w : S256x1024.Idx → Elt F .f32) (g : S8x512x1024.Idx → Elt F .f32) :
    S8x512x1024.Idx → Elt F .f32 :=
  View.write (Elt F) (slab ![i, o, 0] (slab_inb i o hi ho)).view g w Finset.univ

/-- One copy into a slab, its payload agreeing with `G` there: the slab then holds `G`, the rest of the result what it held. -/
theorem copySlab_eq (G g : S8x512x1024.Idx → Elt F .f32) (w : S256x1024.Idx → Elt F .f32) (i o : ℕ) (hi : i < 8) (ho : o + 256 ≤ 512)
    (hw : ∀ (j : S8x512x1024.Idx) (hj : o ≤ (j 1).val ∧ (j 1).val < o + 256),
      (j 0).val = i → w (ix2 ⟨(j 1).val - o, by omega⟩ (j 2)) = G j) :
    copySlab i o hi ho w g = fun j => if (j 0).val = i ∧ o ≤ (j 1).val ∧ (j 1).val < o + 256 then G j else g j := by
  have h := slab_inb i o hi ho
  have hemb : ∀ x : S256x1024.Idx, ∀ a, ((slab ![i, o, 0] h).view.emb x a).val
      = (![i, o, 0] : Fin 3 → ℕ) a + 1 * ((Fin.cons (⟨0, Nat.one_pos⟩ : Fin 1) x : S1x256x1024.Idx) a).val := fun x a => by
    have e : (slab ![i, o, 0] h).view.emb x = (Rect.unit (s := S8x512x1024) ![i, o, 0] S1x256x1024.size h).emb
        (Shape.reshapeEquiv squeezes_S1x256x1024_S256x1024.numel_eq x) := rfl
    rw [e, Shape.reshapeEquiv_cons_one (n := 2) (d := ![256, 1024])]
    rfl
  unfold copySlab
  funext j
  by_cases hj : (j 0).val = i ∧ o ≤ (j 1).val ∧ (j 1).val < o + 256
  · rw [if_pos hj]
    have hx : (slab ![i, o, 0] h).view.emb (ix2 ⟨(j 1).val - o, by omega⟩ (j 2)) = j := by
      funext a
      refine Fin.ext ?_
      match a with
      | ⟨0, _⟩ => rw [hemb]; show i + 1 * 0 = (j 0).val; omega
      | ⟨1, _⟩ => rw [hemb]; show o + 1 * ((j 1).val - o) = (j 1).val; omega
      | ⟨2, _⟩ => rw [hemb]; show 0 + 1 * (j 2).val = (j 2).val; omega
    have hwr := View.write_emb_of_mem (v := (slab ![i, o, 0] h).view) (Val := Elt F) g w
      (Finset.mem_univ (ix2 ⟨(j 1).val - o, by omega⟩ (j 2)))
    exact (congrArg _ hx.symm).trans (hwr.trans (hw j hj.2 hj.1))
  · rw [if_neg hj]
    refine View.write_of_not_mem _ _ _ fun hm => hj ?_
    rw [View.setOn_univ] at hm
    obtain ⟨x, -, rfl⟩ := Finset.mem_map.mp hm
    have h0 := hemb x 0
    have h1 := hemb x 1
    have hlt : (x 0).val < 256 := (x 0).isLt
    have h0' : (((slab ![i, o, 0] h).view.emb x) 0).val = i + 1 * 0 := h0
    have h1' : (((slab ![i, o, 0] h).view.emb x) 1).val = o + 1 * (x 0).val := h1
    omega

/-- The two copies of batch entry `i`: `a` into its features below 256, then `b` into the others. -/
def copyEntry (i : ℕ) (hi : i < 8) (a b : S256x1024.Idx → Elt F .f32) (g : S8x512x1024.Idx → Elt F .f32) :
    S8x512x1024.Idx → Elt F .f32 :=
  copySlab i 256 hi (by decide) b (copySlab i 0 hi (by decide) a g)

/-- The two copies of an entry out of the plane's halves leave that entry of the result at `resOf`, the other entries as
    they were. -/
theorem copyEntry_eq (row col : Vec F S128x256 .f32) (i : ℕ) (hi : i < 8) (g : S8x512x1024.Idx → Elt F .f32) :
    copyEntry i hi (k0_pay1 (top32 col)) (k0_pay2 (top32 row)) g
      = fun j => if (j 0).val = i then resOf row col j else g j := by
  unfold copyEntry
  rw [copySlab_eq (resOf row col) g _ i 0 hi (by decide) (fun j hj _ => by
      have e := planeOf_lo row col ⟨(j 1).val - 0, by omega⟩ (j 2)
      exact e.symm),
    copySlab_eq (resOf row col) _ _ i 256 hi (by decide) (fun j hj _ => by
      have e := planeOf_hi row col ⟨(j 1).val - 256, by omega⟩ (j 2)
      rw [← e]
      unfold resOf
      congr 2
      exact Fin.ext (by show 256 + ((j 1).val - 256) = (j 1).val; omega))]
  funext j
  have hj : (j 1).val < 512 := (j 1).isLt
  by_cases h0 : (j 0).val = i
  · by_cases h1 : (j 1).val < 256
    · rw [if_neg (by omega), if_pos (by omega), if_pos h0]
    · rw [if_pos (by omega), if_pos h0]
  · rw [if_neg (by omega), if_neg (by omega), if_neg h0]

/-- All sixteen copies, entry by entry, leave the whole result at `resOf`, whatever it held. -/
theorem copies_eq (row col : Vec F S128x256 .f32) (a b : S256x1024.Idx → Elt F .f32)
    (ha : a = k0_pay1 (top32 col)) (hb : b = k0_pay2 (top32 row)) (g : S8x512x1024.Idx → Elt F .f32) :
    copyEntry 7 (by decide) a b (copyEntry 6 (by decide) a b (copyEntry 5 (by decide) a b (copyEntry 4 (by decide) a b
      (copyEntry 3 (by decide) a b (copyEntry 2 (by decide) a b (copyEntry 1 (by decide) a b (copyEntry 0 (by decide) a b g)))))))
      = resOf row col := by
  subst ha hb
  simp only [copyEntry_eq]
  funext j
  have hj : (j 0).val < 8 := (j 0).isLt
  split_ifs <;> first | rfl | omega

end Cert.KernelIdeal.Hand

end
-- ==== Proof.Body.lean ====
/-
  The body's run: from the two tables staged in the fast memory, the plane and the result at any contents, and the copies'
  semaphore at zero, the body returns with the tables as they were, the result holding the plane once for each batch entry, and
  the semaphore at zero again. The sixteen copies are one batch on one semaphore: each takes a part of the plane's share and its
  own slab of the result, and the one wait, for the whole result's amount, gets all of them back.
-/
module

public import proofs.«01_k».proof.Proof.Gen.KernelIdeal.Launch
public import proofs.«01_k».proof.Proof.Plane
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffixV
public import Idealize.ShloMosaic.Lib.Batch
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body from its start to its end: the two staged tables read `row` and `col` before and after, the copies' semaphore is at
    zero before and after, the plane ends at something, and the result, from any contents, ends at `resOf row col`; what is
    asked of the continuation `Q` is that it follow from those. The last
    hypothesis is the count of the batch the copies make: sixteen transfers on one semaphore. -/
theorem body_run (c : Dev nD) (arg0 : Memref sig .tc .vmem S128x256 .f32) (harg0 : arg0.IsWhole)
    (arg1 : Memref sig .tc .vmem S128x256 .f32) (harg1 : arg1.IsWhole) (row col : Vec F S128x256 .f32)
    (g : Buf (Elt F) (resM.view.loc (c : Thread nD τ))) (p : Buf (Elt F) (planeM.view.loc (c : Thread nD τ)))
    (W : Waits sig Unit) (Q : PUnit → sProp 𝕄)
    (_plan : Transfers.BatchOf (c : Thread nD τ) (SemLoc.dma (sig := sig) 2) 16 (windows := true)) :
    (iprop(owns (c : Thread nD τ) arg0 fullShare row ∗ owns (c : Thread nD τ) arg1 fullShare col
        ∗ (planeM.view.loc (c : Thread nD τ) ↦{fullShare} p)
        ∗ (resM.view.loc (c : Thread nD τ) ↦{fullShare} g)
        ∗ semVal ((c : Thread nD τ), SemLoc.dma 2) 0 ∗ owes (c : Thread nD τ) 0 W
        ∗ (iprop(owns (c : Thread nD τ) arg0 fullShare row ∗ owns (c : Thread nD τ) arg1 fullShare col
            ∗ (∃ p, planeM.view.loc (c : Thread nD τ) ↦{fullShare} p)
            ∗ (resM.view.loc (c : Thread nD τ) ↦{fullShare} resOf row col)
            ∗ semVal ((c : Thread nD τ), SemLoc.dma 2) 0 ∗ ∃ W, owes (c : Thread nD τ) 0 W) -∗ Q ⟨⟩)) : sProp 𝕄)
      ⊢ wp frame (wpE (defs₀ (F := F)) Variants.none c none) Set.univ
          (cc0__body arg0 harg0 arg1 harg1 resM (Memref.isWhole_whole _) planeM (Memref.isWhole_whole _) cc0_scratch1) Q := by
  unfold owns
  iintro ⟨⟨%f0, %e0, H0⟩, ⟨%f1, %e1, H1⟩, Hp, Hr, Hs, HW, Hk⟩
  sl_unfold [cc0__body]
  sl_exec
  sl_step
  iapply Hk
  isplitl [H0]
  · iexists f0; isplitr; swap; · iexact H0
    ipureintro; exact e0
  isplitl [H1]
  · iexists f1; isplitr; swap; · iexact H1
    ipureintro; exact e1
  isplitl [Hp]; · iexists _; iexact Hp
  isplitl [Hr]
  · have ha := (read_lo planeM.view p (k0_pay1 (top32 col)) (k0_pay2 (top32 row)))
    have hb := (read_hi planeM.view p (k0_pay1 (top32 col)) (k0_pay2 (top32 row)))
    have e := copies_eq row col _ _ ha hb g
    subst e0 e1
    rw [← e]
    iexact Hr
  isplitl [Hs]; · iexact Hs
  iexists _; iexact HW

end Cert.KernelIdeal.Hand

end
-- ==== Proof.Run.lean ====
/-
  The kernel's run. The proof data of the one region: the two tables staged whole, the plane and the copies' semaphore the body's
  own, and the result array owned by the body, at its launch contents before the one point and at the planes after it. From
  them the launch: every execution of @main returns with the arguments as launched, every semaphore at zero, and the result of
  @main holding the planes, reshaped to four axes.
-/
module

public import proofs.«01_k».proof.Proof.Body
public import Idealize.ShloMosaic.Lib.Pipeline.FrameSuffixV

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The tables, and the blocks the windows stage -/

/-- The row table as launched: the second argument. -/
abbrev rowOf (c : Dev nD) : Vec F S128x256 .f32 := m ((c : Thread nD τ).loc main_arg1)
/-- The column table as launched: the third argument. -/
abbrev colOf (c : Dev nD) : Vec F S128x256 .f32 := m ((c : Thread nD τ).loc main_arg2)

/-- The first window's block at the one point is the row table, whole. -/
theorem iblk_row (c : Dev nD) (t : Fin cfg0.N) : iblk m c 0 t = rowOf m c := by
  unfold iblk
  funext y
  show rowOf m c _ = rowOf m c y
  congr 1
  funext a
  exact Fin.ext ((Pipeline.Window.rect_emb_val win0_0 t y a rfl).trans ((congrArg (· + _) (Nat.zero_mul _)).trans (Nat.zero_add _)))

/-- The second window's block at the one point is the column table, whole. -/
theorem iblk_col (c : Dev nD) (t : Fin cfg0.N) : iblk m c 1 t = colOf m c := by
  unfold iblk
  funext y
  show colOf m c _ = colOf m c y
  congr 1
  funext a
  exact Fin.ext ((Pipeline.Window.rect_emb_val win0_1 t y a rfl).trans ((congrArg (· + _) (Nat.zero_mul _)).trans (Nat.zero_add _)))

/-! ## What the body owns besides the windows -/

/-- The body's one semaphore, the copies'. -/
abbrev ownSem : Fin 1 → SemLoc sig := fun _ => SemLoc.dma 2
theorem ownSem_facts : Pipeline.OwnSemFacts spec0 ownSem := by decide

/-- It, at zero. -/
theorem ownSems_eq (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), SemLoc.dma 2) 0) := by
  rw [Pipeline.ownSems0_eq_of_list c ownSem [0] (by decide) (by decide)]; rfl

/-- The arrays the body writes and no window stages: the result. -/
abbrev written : Finset (Ref sig .tc) := {main_v0}
theorem written_sub : written ⊆ Pipeline.restRefs sig spec0 \ ∅ := by decide

/-- What the buffers hold when the region ends: the result the planes, every other what it held. -/
def ended (c : Dev nD) : (b : Ref sig .tc) → Buf (Elt F) ((c : Thread nD τ).loc b) :=
  Function.update (V m c) main_v0 (resOf (rowOf m c) (colOf m c))

theorem ended_res (c : Dev nD) : ended m c main_v0 = resOf (rowOf m c) (colOf m c) := Function.update_self ..

/-- The body's own resources, the result at `G`: the plane at something, the semaphore at zero, the result. -/
theorem own_eq (G : (c : Dev nD) → (b : Ref sig .tc) → Buf (Elt F) ((c : Thread nD τ).loc b)) (c : Dev nD) :
    (Pipeline.ΦDRV ownSem spec0 ∅ written (V m) G c : sProp 𝕄)
      = iprop((∃ f : Buf (Elt F) ((c : Thread nD τ).loc cc0_scratch0), ((c : Thread nD τ).loc cc0_scratch0) ↦{fullShare} f)
          ∗ semVal ((c : Thread nD τ), SemLoc.dma 2) 0 ∗ emp ∗ (((c : Thread nD τ).loc main_v0) ↦{fullShare} G c main_v0)) := by
  unfold Pipeline.ΦDRV
  rw [scopedRest0_eq, ownSems_eq, BI.bigSep_eq_bigSepL_of_eq [] (by decide) (by decide),
    BI.bigSep_eq_bigSepL_of_eq [main_v0] (by decide) (by decide)]
  rfl

/-! ## The proof data and the body's obligation -/

/-- The region's proof data on core `c`: the arrays as the region finds them, the tables left in their buffers, the body's own
    resources with the result at its launch contents before the point and at the planes after it, nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := if t.val = 0 then Pipeline.ΦDRV ownSem spec0 ∅ written (V m) (V m) c
    else Pipeline.ΦDRV ownSem spec0 ∅ written (V m) (ended m) c
  q _ := fullShare
  owed _ := 0

theorem A_eq (c : Dev nD) (w : Fin cfg0.W) : (dats m 0 c).A w = V m c (Pipeline.arrRef spec0 w) := by
  dsimp only [dats]
theorem after_row (c : Dev nD) (t : Fin cfg0.N) : (dats m 0 c).after 0 t = iblk m c 0 t := by dsimp only [dats]
theorem after_col (c : Dev nD) (t : Fin cfg0.N) : (dats m 0 c).after 1 t = iblk m c 1 t := by dsimp only [dats]

/-- Before the body the first staging buffer holds the row table. -/
theorem before_row (c : Dev nD) (t : Fin cfg0.N) (d) : (dats m 0 c).before 0 t d = iblk m c 0 t :=
  ((dats m 0 c).before_in_eq_fetched 0 rfl (fun _ => rfl) (fun _ _ _ => rfl)
    (fun t => by rw [after_row]; unfold Dat.blockOf iblk; rw [A_eq]) t d).trans
    (by unfold Dat.fetched Dat.blockOf iblk; rw [A_eq]; try rfl)
/-- And the second the column table. -/
theorem before_col (c : Dev nD) (t : Fin cfg0.N) (d) : (dats m 0 c).before 1 t d = iblk m c 1 t :=
  ((dats m 0 c).before_in_eq_fetched 1 rfl (fun _ => rfl) (fun _ _ _ => rfl)
    (fun t => by rw [after_col]; unfold Dat.blockOf iblk; rw [A_eq]) t d).trans
    (by unfold Dat.fetched Dat.blockOf iblk; rw [A_eq]; try rfl)

/-- What the region hands the body at the point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
/-- What the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at the point, from what the region hands it to what it hands back: `body_run` at the two tables. -/
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [show (dats m 0 c).Φ t0_0.castSucc = Pipeline.ΦDRV ownSem spec0 ∅ written (V m) (V m) c from rfl,
    show (dats m 0 c).Φ t0_0.succ = Pipeline.ΦDRV ownSem spec0 ∅ written (V m) (ended m) c from rfl, own_eq, own_eq, ended_res,
    after_row, after_col, iblk_row, iblk_col]
  simp only [before_row, before_col, iblk_row, iblk_col]
  unfold Dat.owesAt Pipeline.owesWithin
  rw [show (dats m 0 c).owed t0_0.castSucc = 0 from rfl, show (dats m 0 c).owed t0_0.succ = 0 from rfl]
  iintro ⟨⟨⟨%p, Hp⟩, Hs, He, Hr⟩, ⟨%W, -, HW⟩, ⟨%d0, H0⟩, ⟨%d1, H1⟩⟩
  iapply (body_run c _ _ _ _ (rowOf m c) (colOf m c) (V m c main_v0) p W _ trivial)
  isplitl [H0]; · iexact H0
  isplitl [H1]; · iexact H1
  isplitl [Hp]; · iexact Hp
  isplitl [Hr]; · iexact Hr
  isplitl [Hs]; · iexact Hs
  isplitl [HW]; · iexact HW
  iintro ⟨H0, H1, ⟨%p, Hp⟩, Hr, Hs, ⟨%W', HW'⟩⟩
  isplitl [Hp Hs He Hr]
  · isplitl [Hp]; · iexists p; iexact Hp
    isplitl [Hs]; · iexact Hs
    isplitl [He]; · iexact He
    iexact Hr
  isplitl [HW']
  · iexists W'; isplitr; · ipureintro; exact fun _ _ => Or.inl trivial
    iexact HW'
  isplitl [H0]; · iexact H0
  iexact H1

/-- The region's call of the body is the body at the point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option maxHeartbeats 800000 in
/-- @main around its one region: no host line before it, the reshape after it. -/
theorem main_around : Pipeline.HMainK (Ix := Unit) (Name := ℕ) (U := Pipeline.UD sig nD τ) (Lvl := ℕ) cfgs 0 defs₀ Variants.none m
    (main (F := F)) (V m) (fun _ => Pipeline.chain ([hostOps1].map StableHlo.seq)) :=
  Pipeline.hmain_around cfgs 0 defs₀ Variants.none m main [] [hostOps1] (by simp only [List.Forall])
    (by simp only [List.Forall]) main_chain

/-- What a buffer of the core holds once the reshape has run over what the region left. -/
abbrev left (c : Dev nD) : Valuation τ sig (Elt F) :=
  StableHlo.after [hostOps1].flatten (Pipeline.withArrays spec0 c (Pipeline.withR (V0 m c) written c (ended m c))
    fun w => (dats m 0 c).arrAt w cfg0.N)

set_option backward.isDefEq.respectTransparency.types false in
/-- The run: every execution returns, each staged array as the proof data say, every other as the reshape leaves it, every
    semaphore at zero. -/
theorem run_main : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = left m c (Proc.devRef .tc b))
    ∧ r.2.sem = fun _ => 0) :=
  Pipeline.θ_run_frame_dmaR_aroundV (Q' := _) cfgs (dats m) (0 : Fin 1) launch0 ownSem defs₀ Variants.none ownSem_facts ∅ written
    (Finset.empty_subset _) written_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := ended m) (hmain := main_around m) (hA := A_eq m)
    (hin := fun _ => .rfl) (hout := fun _ => .rfl) (hQ' := fun _ h => ⟨fun c => ⟨(h.1 c).1, (h.1 c).2⟩, h.2⟩)

/-- The reshape leaves the first argument alone, and so did the region. -/
theorem left_arg0 (c : Dev nD) : left m c (Proc.devRef .tc main_arg0) = m ((c : Thread nD τ).loc main_arg0) := by
  unfold left
  rw [StableHlo.after_of_forall_not_mem (b := Proc.devRef .tc main_arg0) _ _ (List.forall_iff_forall_mem.mp (by
      simp only [hostOps1, List.flatten_cons, List.flatten_nil, List.append_nil, List.Forall, StableHlo.reshape_writes,
        Finset.mem_singleton]
      exact StableHlo.devRef_ne_of_ne (by decide))),
    Pipeline.withArrays_of_ne _ c _ _ main_arg0 (by exact (by decide : ∀ w, Pipeline.arrRef spec0 w ≠ main_arg0)),
    Pipeline.withR_of_not_mem _ _ _ _ main_arg0 (by decide)]
  rfl

/-- The result of @main ends at the planes, reshaped. -/
theorem left_v1 (c : Dev nD) : left m c (Proc.devRef .tc main_v1)
    = shapeCast S8x512x32x32 (resOf (rowOf m c) (colOf m c)) shapeCasts_S8x512x1024_S8x512x32x32 := by
  unfold left
  have h : Pipeline.withArrays spec0 c (Pipeline.withR (V0 m c) written c (ended m c))
      (fun w => (dats m 0 c).arrAt w cfg0.N) (Proc.devRef .tc main_v0) = resOf (rowOf m c) (colOf m c) := by
    rw [Pipeline.withArrays_of_ne _ c _ _ main_v0 (by exact (by decide : ∀ w, Pipeline.arrRef spec0 w ≠ main_v0)),
      Pipeline.withR_of_mem _ _ _ _ main_v0 (by decide), ended_res]
  rw [← h, List.flatten_singleton, StableHlo.after_cons, StableHlo.after_nil]
  exact StableHlo.reshape_result main_v0 main_v1 rfl shapeCasts_S8x512x1024_S8x512x32x32 ⟨by decide, rfl⟩ ⟨by decide, rfl⟩ _

/-- The kernel's run, read at the arguments and the result: from any contents every execution returns, the arguments as launched,
    the result the planes reshaped to four axes, every semaphore at zero. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v1)
          = shapeCast S8x512x32x32 (resOf (rowOf m c) (colOf m c)) shapeCasts_S8x512x1024_S8x512x32x32)
      ∧ r.2.sem = fun _ => 0) :=
  (θ_run defs _ _).mono (fun _ h => ⟨fun c => ⟨⟨
      ((h.1 c).2 main_arg0 (Pipeline.mem_restRefs_of main_arg0 (by decide) (by decide))).trans (left_arg0 m c),
      ((h.1 c).1 0).trans (((dats m 0 c).arrAt_in 0 rfl _).trans (A_eq m c 0)),
      ((h.1 c).1 1).trans (((dats m 0 c).arrAt_in 1 rfl _).trans (A_eq m c 1))⟩,
      ((h.1 c).2 main_v1 (Pipeline.mem_restRefs_of main_v1 (by decide) (by decide))).trans (left_v1 m c)⟩, h.2⟩) (run_main m ρ)

end Cert.KernelIdeal.Hand

end
-- ==== Proof.SameProgram.lean ====
/-
  The kernel as written and the kernel read at exact arithmetic are one program text: neither has an operation the other lacks. So
  what is proved of the one at every kind of float holds of the other.
-/
module

public import proofs.«01_k».proof.Defs
public import proofs.«01_k».proof.Proof.Gen.Kernel
public import proofs.«01_k».proof.Proof.Gen.KernelIdeal

@[expose] public section

set_option maxRecDepth 16384

noncomputable section

namespace Cert.Same

open Idealize.ShloMosaic

variable {F : FTy → Type} [FloatOps F]

/-- The two have the same @main. -/
theorem main_eq : (Cert.Kernel.main (F := F)) = (Cert.KernelIdeal.main (F := F)) := rfl

/-- The same kernel body behind the region's label. -/
theorem defs₀_eq : (Cert.Kernel.defs₀ (F := F)) = (Cert.KernelIdeal.defs₀ (F := F)) := by
  unfold Cert.Kernel.defs₀ Cert.KernelIdeal.defs₀
  refine congrArg (Defs.onTc (sig := Cert.KernelIdeal.sig) (Λ := Cert.KernelIdeal.Λ₀)) ?_
  funext l a
  match l, a with
  | 0, (t, s) => rfl

/-- And the same definitions with the region's own around it. -/
theorem defs_eq : (Cert.Kernel.defs (F := F)) = (Cert.KernelIdeal.defs (F := F)) := by
  unfold Cert.Kernel.defs Cert.KernelIdeal.defs
  exact congrArg (Pipeline.defs (Cert.KernelIdeal.pcfgs (F := F))) defs₀_eq

end Cert.Same

end
-- ==== Proof.OneHot.lean ====
/-
  What the body's two products hold. Each contracts a table's 32 rows with a matrix of ones and zeros that has, for a position `p` of
  the 32 by 32 grid, its single one at the row of `p`'s column (`p` modulo 32) or of `p`'s grid row (`p` over 32). So each product
  only looks a row up.
-/
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen
open Idealize.ShloMosaic

/-- The low five bits of a position are its column. -/
theorem column_word (p : Fin 1024) : IntOp.andi (BitVec.ofNat 32 p.val) 31#32 = BitVec.ofNat 32 (p.val % 32) := by
  revert p
  decide +kernel

/-- A position shifted right by five bits is its grid row. -/
theorem row_word (p : Fin 1024) : IntOp.shrsi .vector (BitVec.ofNat 32 p.val) 5#32 = BitVec.ofNat 32 (p.val / 32) := by
  revert p
  decide +kernel

/-- A sum over the 32 rows that keeps only the term of row `n` is that term. -/
theorem sum_one_hot (n : Fin 32) (f : Fin 32 → EReal) :
    ∑ k : Fin 32, Scalar.select (IntOp.cmpi .eq (BitVec.ofNat 32 n.val) (BitVec.ofNat 32 k.val)) (f k) 0 = f n := by
  have h : ∀ k : Fin 32, Scalar.select (IntOp.cmpi .eq (BitVec.ofNat 32 n.val) (BitVec.ofNat 32 k.val)) (f k) 0
      = if n = k then f k else 0 := fun k => by
    rw [WordCmp.cmpi_eq_ofNat (by omega) (by omega), WordCmp.select_ofBool]
    simp only [decide_eq_true_eq, Fin.ext_iff]
  simp only [h, Finset.sum_ite_eq, Finset.mem_univ, if_true]

/-- The first product: at feature `d` and position `p`, the table's entry of `p`'s column. -/
theorem pay1_apply (x : Vec Ideal S32x256 .f32) (d : Fin 256) (p : Fin 1024) :
    k0_pay1 x (ix2 d p) = x (ix2 ⟨p.val % 32, Nat.mod_lt _ (by decide)⟩ d) := by
  pointwise [k0_pay1]
  rw [column_word]
  exact sum_one_hot ⟨p.val % 32, Nat.mod_lt _ (by decide)⟩ fun k => x (ix2 k d)

/-- The second product: at feature `d` and position `p`, the table's entry of `p`'s grid row. -/
theorem pay2_apply (x : Vec Ideal S32x256 .f32) (d : Fin 256) (p : Fin 1024) :
    k0_pay2 x (ix2 d p) = x (ix2 ⟨p.val / 32, by omega⟩ d) := by
  pointwise [k0_pay2]
  rw [row_word]
  exact sum_one_hot ⟨p.val / 32, by omega⟩ fun k => x (ix2 k d)

end Cert.KernelIdeal.Hand

end
-- ==== Proof.Reference.lean ====
/-
  The reference's run. It takes the tables' rows at the positions 0 to 31, lays the two taken tables over the grid side by side,
  moves the features first and repeats the plane for each batch entry. The program's result is stated here as one term over the two
  tables, at any kind of float; every execution leaves that term and the arguments as launched.
-/
module

public import proofs.«01_k».proof.Defs
public import proofs.«01_k».proof.Proof.Gen.ReferenceIdeal
public import Idealize.ShloMosaic.Lib.StableHlo.Run
public import Idealize.ShloMosaic.Lib.Pipeline.Frame
public import Idealize.ShloMosaic.Lib.Quiescent

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-! ## What the reference computes -/

/-- The positions a `take` reads, as a column: a position below zero counts from the table's end. -/
def positions (i : IVec S32 32) : IVec S32x1 32 :=
  broadcastInDim S32x1 ![0] bcast_S32_S32x1_0
    (select (cmpi .slt i (broadcastInDim S32 ![] bcast_S_S32 (constantI S_ 32 0#32)))
      (addi i (broadcastInDim S32 ![] bcast_S_S32 (constantI S_ 32 128#32))) i)

/-- Which of them lie inside the table, rows 0 to 127. -/
def inside (i : IVec S32 32) : IVec S32 1 :=
  Host.reduce IntOp.andi
    (andi (cmpi .sge (positions i) (broadcastInDim S32x1 ![] bcast_S_S32x1 (constantI S_ 32 0#32)))
      (cmpi .sle (positions i) (broadcastInDim S32x1 ![0, 1] bcast_S1x1_S32x1_0_1
        (broadcastInDim S1x1 ![1] bcast_S1_S1x1_1 (constantI S1 32 127#32)))))
    (constantI S_ 1 1#1) reducesTo_S32x1_S32_d1 h_S_

/-- `take`: the table's rows at the positions, the filling constant at a position outside the table. -/
def taken (x : Vec F S128x256 .f32) (i : IVec S32 32) : FVec F S32x256 .f32 :=
  select (broadcastInDim S32x256 ![0] bcast_S32_S32x256_0 (inside i))
    (Host.gather gather_S128x256_S32x1_S32x256_1_0_n_n_0_1_1256 x (positions i))
    (broadcastInDim S32x256 ![] bcast_S_S32x256 (constant S_ .f32 0x7FC00000#32))

/-- The two tables' first 32 rows spread over the 32×32 grid, side by side along the features. -/
def sideBySide (row col : Vec F S128x256 .f32) : FVec F S32x32x512 .f32 :=
  concatenate S32x32x512 2
    [⟨S32x32x256, broadcastInDim S32x32x256 ![0, 1, 2] bcast_S1x32x256_S32x32x256_0_1_2
        (broadcastInDim S1x32x256 ![1, 2] bcast_S32x256_S1x32x256_1_2 (taken col (iotaInDim S32 32 0)))⟩,
     ⟨S32x32x256, broadcastInDim S32x32x256 ![0, 1, 2] bcast_S32x1x256_S32x32x256_0_1_2
        (broadcastInDim S32x1x256 ![0, 2] bcast_S32x256_S32x1x256_0_2 (taken row (iotaInDim S32 32 0)))⟩]
    concatenates_S32x32x256_S32x32x256_S32x32x512_d2

/-- The reference's result: the features first, once for each batch entry. -/
def out (row col : Vec F S128x256 .f32) : FVec F S8x512x32x32 .f32 :=
  broadcastInDim S8x512x32x32 ![0, 1, 2, 3] bcast_S1x512x32x32_S8x512x32x32_0_1_2_3
    (broadcastInDim S1x512x32x32 ![1, 2, 3] bcast_S512x32x32_S1x512x32x32_1_2_3
      (transpose S512x32x32 [2, 0, 1] (sideBySide row col) transposes_S32x32x512_S512x32x32_2_0_1))

/-! ## Its run -/

/-- One call of `take`, operation by operation. -/
abbrev takeOps (x : TRef sig ⟨S128x256, .f32⟩) (i : TRef sig ⟨S32, .i32⟩) (φ : fn_take.Bufs) : List (HloOp τ sig (Elt F)) :=
  [ TRef.nullary φ.c (constantI S_ 32 0#32),
    TRef.unary φ.c φ.v0 (broadcastInDim S32 ![] bcast_S_S32),
    TRef.binary i φ.v0 φ.v1 (cmpi .slt),
    TRef.nullary φ.c_0 (constantI S_ 32 128#32),
    TRef.unary φ.c_0 φ.v2 (broadcastInDim S32 ![] bcast_S_S32),
    TRef.binary i φ.v2 φ.v3 addi,
    TRef.ternary φ.v1 φ.v3 i φ.call0.v0 select,
    TRef.unary φ.call0.v0 φ.v5 (broadcastInDim S32x1 ![0] bcast_S32_S32x1_0),
    TRef.nullary φ.c_1 (constantI S1 32 127#32),
    TRef.nullary φ.c_2 (constantI S_ 32 0#32),
    TRef.unary φ.c_2 φ.v6 (broadcastInDim S32x1 ![] bcast_S_S32x1),
    TRef.binary φ.v5 φ.v6 φ.v7 (cmpi .sge),
    TRef.unary φ.c_1 φ.v8 (broadcastInDim S1x1 ![1] bcast_S1_S1x1_1),
    TRef.unary φ.v8 φ.v9 (broadcastInDim S32x1 ![0, 1] bcast_S1x1_S32x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S32x1_S32_d1 h_S_),
    TRef.binary x φ.v5 φ.v13 (fun x i => Host.gather gather_S128x256_S32x1_S32x256_1_0_n_n_0_1_1256 x i),
    TRef.unary φ.v12 φ.v14 (broadcastInDim S32x256 ![0] bcast_S32_S32x256_0),
    TRef.nullary φ.cst (constant S_ .f32 0x7FC00000#32),
    TRef.unary φ.cst φ.v15 (broadcastInDim S32x256 ![] bcast_S_S32x256),
    TRef.ternary φ.v14 φ.v13 φ.v15 φ.v16 select ]

/-- What follows the two calls. -/
abbrev joinOps : List (HloOp τ sig (Elt F)) :=
  [ unary main_v2 main_v4 (broadcastInDim S1x32x256 ![1, 2] bcast_S32x256_S1x32x256_1_2),
    unary main_v4 main_v5 (broadcastInDim S32x32x256 ![0, 1, 2] bcast_S1x32x256_S32x32x256_0_1_2),
    unary main_v3 main_v6 (broadcastInDim S32x1x256 ![0, 2] bcast_S32x256_S32x1x256_0_2),
    unary main_v6 main_v7 (broadcastInDim S32x32x256 ![0, 1, 2] bcast_S32x1x256_S32x32x256_0_1_2),
    binary main_v5 main_v7 main_v8 (fun a b => concatenate S32x32x512 2 [⟨S32x32x256, a⟩, ⟨S32x32x256, b⟩]
      concatenates_S32x32x256_S32x32x256_S32x32x512_d2),
    unary main_v8 main_v9 (transpose S512x32x32 [2, 0, 1] · transposes_S32x32x512_S512x32x32_2_0_1),
    unary main_v9 main_v10 (broadcastInDim S1x512x32x32 ![1, 2, 3] bcast_S512x32x32_S1x512x32x32_1_2_3),
    unary main_v10 main_v11 (broadcastInDim S8x512x32x32 ![0, 1, 2, 3] bcast_S1x512x32x32_S8x512x32x32_0_1_2_3) ]

/-- The two calls, before what follows them. -/
abbrev callOps : List (HloOp τ sig (Elt F)) :=
  [ nullary main_v0 (iotaInDim S32 32 0), nullary main_v1 (iotaInDim S32 32 0) ]
    ++ (takeOps (.of main_arg2) (.of main_v0) main_call0 ++ takeOps (.of main_arg1) (.of main_v1) main_call1)

/-- @main's operations in order. -/
abbrev ops : List (HloOp τ sig (Elt F)) := callOps ++ joinOps

set_option maxRecDepth 16384 in
/-- @main is their straight line. -/
theorem main_eq (c : Dev nD) : main (F := F) c = seq ops := by
  simp only [main, fn_take.body, fn_where.body, ops, callOps, takeOps, joinOps, List.cons_append, List.nil_append, seq, bind_assoc, pure_bind]
  rfl

/-- One call's operations touch buffers of the core alone. -/
theorem takeOps_sub (x : TRef sig ⟨S128x256, .f32⟩) (i : TRef sig ⟨S32, .i32⟩) (φ : fn_take.Bufs) :
    (takeOps x i φ : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- And so do all of @main's. -/
theorem ops_sub : (ops : List (HloOp τ sig (Elt F))).Forall fun op => op.bufs ⊆ tcRefs τ sig :=
  List.forall_append.mpr ⟨List.forall_append.mpr ⟨⟨nullary_bufs_sub .., nullary_bufs_sub ..⟩,
    List.forall_append.mpr ⟨takeOps_sub .., takeOps_sub ..⟩⟩,
    ⟨unary_bufs_sub .., unary_bufs_sub .., unary_bufs_sub .., unary_bufs_sub .., binary_bufs_sub .., unary_bufs_sub ..,
      unary_bufs_sub .., unary_bufs_sub ..⟩⟩

/-- No operation writes an argument: `x`. -/
theorem arg0_eq (V : Valuation τ sig (Elt F)) : after ops V (main_arg0 : DevRef τ sig) = V (main_arg0 : DevRef τ sig) := by
  simp only [ops, callOps, takeOps, joinOps, List.cons_append, List.nil_append, after_cons, after_nil]
  rfl
/-- Nor the row table. -/
theorem arg1_eq (V : Valuation τ sig (Elt F)) : after ops V (main_arg1 : DevRef τ sig) = V (main_arg1 : DevRef τ sig) := by
  simp only [ops, callOps, takeOps, joinOps, List.cons_append, List.nil_append, after_cons, after_nil]
  rfl
/-- Nor the column table. -/
theorem arg2_eq (V : Valuation τ sig (Elt F)) : after ops V (main_arg2 : DevRef τ sig) = V (main_arg2 : DevRef τ sig) := by
  simp only [ops, callOps, takeOps, joinOps, List.cons_append, List.nil_append, after_cons, after_nil]
  rfl

/-- The first call leaves the column table's rows. -/
theorem call_col (V : Valuation τ sig (Elt F)) : after callOps V (main_v2 : DevRef τ sig)
    = taken (V (main_arg2 : DevRef τ sig)) (iotaInDim S32 32 0) := by
  simp only [callOps, takeOps, List.cons_append, List.nil_append]
  after_results_simp
  rfl

/-- The second leaves the row table's. -/
theorem call_row (V : Valuation τ sig (Elt F)) : after callOps V (main_v3 : DevRef τ sig)
    = taken (V (main_arg1 : DevRef τ sig)) (iotaInDim S32 32 0) := by
  simp only [callOps, takeOps, List.cons_append, List.nil_append]
  after_results_simp
  rfl

/-- The whole line leaves `out` of the two tables in the result. -/
theorem out_eq (V : Valuation τ sig (Elt F)) : after ops V (main_v11 : DevRef τ sig)
    = out (V (main_arg1 : DevRef τ sig)) (V (main_arg2 : DevRef τ sig)) := by
  rw [after_append]
  unfold out sideBySide
  rw [← call_col, ← call_row]
  after_results_simp
  rfl

/-- The reference's run: every execution returns with the arguments as launched, the result `out` of the two tables, and no
    semaphore counter up (the program declares none). -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v11)
          = out (m ((c.tc : Thread nD τ).loc main_arg1)) (m ((c.tc : Thread nD τ).loc main_arg2)))
      ∧ r.2.sem = fun _ => 0 :=
  (θ_run defs _ _).mono (fun r h => ⟨fun c => ⟨⟨(h c main_arg0).trans (arg0_eq _), (h c main_arg1).trans (arg1_eq _),
      (h c main_arg2).trans (arg2_eq _)⟩, (h c main_v11).trans (out_eq _)⟩, sem_eq_zero_of_no_sems (by decide) r.2⟩)
    (run_seq (by decide) (by decide) defs main (fun _ => ops) main_eq (fun _ => ops_sub) m ρ)

end Cert.ReferenceIdeal.Hand

end
-- ==== Proof.ReferenceAt.lean ====
/-
  The reference's result at an index. The positions a call of `take` reads are 0 to 31, all inside the table, so row `w` of what it
  returns is row `w` of the table; and the result at batch entry `b`, feature `d`, row `y`, column `x` of the grid is the column
  table's entry `(x, d)` for a feature below 256, the row table's entry `(y, d - 256)` for another.
-/
module

public import proofs.«01_k».proof.Proof.Reference
public import Idealize.ShloMosaic.Lib.Pointwise
public import Idealize.ShloMosaic.Lib.Routing.Ops

@[expose] public section

set_option maxRecDepth 16384

noncomputable section

namespace Cert.ReferenceIdeal.Hand

open Cert.ReferenceIdeal Cert.ReferenceIdeal.Gen
open Idealize.ShloMosaic

/-- The positions are the numbers 0 to 31: none is below zero. -/
theorem positions_at (w : Fin 32) : positions (iotaInDim S32 32 0) (ix2 w (0 : Fin 1)) = BitVec.ofNat 32 w.val := by
  pointwise [positions]
  revert w
  decide

/-- Each lies inside the table. -/
theorem inside_at (w : Fin 32) : inside (iotaInDim S32 32 0) (ix1 w) = 1#1 := by
  pointwise [inside]
  rw [Finset.univ_unique, Finset.fold_singleton, show (default : Fin 1) = 0 from rfl, positions_at]
  revert w
  decide

/-- So `take` returns the table's first 32 rows. -/
theorem taken_at (x : Vec Ideal S128x256 .f32) (w : Fin 32) (d : Fin 256) :
    taken x (iotaInDim S32 32 0) (ix2 w d) = x (ix2 ⟨w.val, by omega⟩ d) := by
  pointwise [taken]
  rw [inside_at]
  exact Routing.gather_row _ rfl rfl rfl rfl rfl x _ w d ⟨w.val, by omega⟩ (positions_at w) (by decide)

/-- The result at an index. -/
theorem out_at (row col : Vec Ideal S128x256 .f32) (b : Fin 8) (d : Fin 512) (y x : Fin 32) :
    out row col (ix4 b d y x) = if h : d.val < 256 then col (ix2 ⟨x.val, by omega⟩ ⟨d.val, h⟩)
      else row (ix2 ⟨y.val, by omega⟩ ⟨d.val - 256, by omega⟩) := by
  pointwise [out, sideBySide]
  simp only [taken_at]

end Cert.ReferenceIdeal.Hand

end
-- ==== Proof.Equation.lean ====
/-
  The equation between the two programs at exact arithmetic: what the kernel leaves and what the reference leaves are the same array
  of the same two tables. Both hold, at batch entry `b`, feature `d`, grid row `y` and grid column `x`, the column table's entry
  `(x, d)` for a feature below 256 and the row table's entry `(y, d - 256)` for another.
-/
module

public import proofs.«01_k».proof.Proof.Plane
public import proofs.«01_k».proof.Proof.OneHot
public import proofs.«01_k».proof.Proof.ReferenceAt

@[expose] public section

set_option maxRecDepth 16384

noncomputable section

namespace Cert.KernelIdeal.Hand

open Cert.KernelIdeal Cert.KernelIdeal.Gen
open Idealize.ShloMosaic

/-- The part of a table the body loads, at an index. -/
theorem top32_apply (x : Vec Ideal S128x256 .f32) (k : Fin 32) (d : Fin 256) :
    top32 x (ix2 k d) = x (ix2 ⟨k.val, by omega⟩ d) := by
  unfold top32
  congr 1
  funext a
  refine Fin.ext ?_
  match a with
  | ⟨0, _⟩ => show 0 + 1 * k.val = k.val; omega
  | ⟨1, _⟩ => show 0 + 1 * d.val = d.val; omega

/-- The plane at feature `d` and the position of grid row `y` and column `x`. -/
theorem planeOf_apply (row col : Vec Ideal S128x256 .f32) (d : Fin 512) (y x : Fin 32) (l : Fin 1024) (hl : l.val = y.val * 32 + x.val) :
    planeOf row col (ix2 d l) = if h : d.val < 256 then col (ix2 ⟨x.val, by omega⟩ ⟨d.val, h⟩)
      else row (ix2 ⟨y.val, by omega⟩ ⟨d.val - 256, by omega⟩) := by
  by_cases h : d.val < 256
  · rw [dif_pos h]
    refine (planeOf_lo row col ⟨d.val, h⟩ l).trans ?_
    rw [pay1_apply, top32_apply]
    congr 2
    exact Fin.ext (by show l.val % 32 = x.val; omega)
  · rw [dif_neg h]
    have e := planeOf_hi row col ⟨d.val - 256, by omega⟩ l
    have hd : (⟨256 + (d.val - 256), by omega⟩ : Fin 512) = d := Fin.ext (by show 256 + (d.val - 256) = d.val; omega)
    rw [hd] at e
    refine e.trans ?_
    rw [pay2_apply, top32_apply]
    congr 2
    exact Fin.ext (by show l.val / 32 = y.val; omega)

/-- The kernel's result at an index. -/
theorem res_at (row col : Vec Ideal S128x256 .f32) (b : Fin 8) (d : Fin 512) (y x : Fin 32) :
    shapeCast S8x512x32x32 (resOf row col) shapeCasts_S8x512x1024_S8x512x32x32 (ix4 b d y x)
      = if h : d.val < 256 then col (ix2 ⟨x.val, by omega⟩ ⟨d.val, h⟩)
        else row (ix2 ⟨y.val, by omega⟩ ⟨d.val - 256, by omega⟩) := by
  pointwise [resOf]
  exact planeOf_apply row col d y x _ rfl

/-- The kernel's result is the reference's. -/
theorem res_eq_out (row col : Vec Ideal S128x256 .f32) :
    shapeCast S8x512x32x32 (resOf row col) shapeCasts_S8x512x1024_S8x512x32x32 = Cert.ReferenceIdeal.Hand.out row col := by
  funext j
  rw [eq_ix4 j]
  exact (res_at row col (j 0) (j 1) (j 2) (j 3)).trans (Cert.ReferenceIdeal.Hand.out_at row col (j 0) (j 1) (j 2) (j 3)).symm

end Cert.KernelIdeal.Hand

end
-- ==== Proof.lean ====
/-
  The five claims, put together. The kernel's run is proved once for every kind of float: at words, through the two programs being one
  text, it is the frame of the kernel as written; at exact numbers it is the frame of the kernel so read and one half of the
  algebraic claim. The reference's run is the third frame and the other half, and the equation of the two results joins them.
-/
module

public import proofs.«01_k».proof.Defs
public import proofs.«01_k».proof.Proof.Gen.Kernel
public import proofs.«01_k».proof.Proof.Run
public import proofs.«01_k».proof.Proof.SameProgram
public import proofs.«01_k».proof.Proof.Equation

@[expose] public section

set_option maxRecDepth 16384

noncomputable section

namespace Cert.Proof

open Idealize.ShloMosaic Idealize.SL.Sem

/-- The kernel as written, on words: it returns from any contents, its arguments unchanged and every semaphore at zero. -/
theorem frame_kernel : Cert.quiescent_Kernel (hKernel := Cert.Kernel.Gen.facts) := by
  intro m g _
  rw [Cert.Same.defs_eq, Cert.Same.main_eq]
  exact (θ_run _ _ _).mono (fun _ h => ⟨fun c => (h.1 c).1, h.2⟩) (Cert.KernelIdeal.Hand.run (F := Bits) m g)

/-- The kernel at exact numbers: the same. -/
theorem frame_kernel_ideal : Cert.quiescent_KernelIdeal (hKernelIdeal := Cert.KernelIdeal.Gen.facts) := fun m g _ =>
  (θ_run _ _ _).mono (fun _ h => ⟨fun c => (h.1 c).1, h.2⟩) (Cert.KernelIdeal.Hand.run (F := Ideal) m g)

/-- The reference at exact numbers: the same. -/
theorem frame_reference : Cert.quiescent_ReferenceIdeal (hReferenceIdeal := Cert.ReferenceIdeal.Gen.facts) := fun m g _ =>
  (θ_run _ _ _).mono (fun _ h => ⟨fun c => (h.1 c).1, h.2⟩) (Cert.ReferenceIdeal.Hand.run (F := Ideal) m g)

/-- From the same arguments the kernel and the reference end with equal results, at exact numbers. -/
theorem same_result : Cert.algebraic_KernelIdeal_ReferenceIdeal (hKernelIdeal := Cert.KernelIdeal.Gen.facts)
    (hReferenceIdeal := Cert.ReferenceIdeal.Gen.facts) := by
  intro m g m' g' _ same
  refine ⟨_, (θ_run _ _ _).mono (fun _ h c => ⟨(h.1 c).2, (h.1 c).1⟩) (Cert.KernelIdeal.Hand.run (F := Ideal) m g),
    (θ_run _ _ _).mono (fun _ h c => ⟨(h.1 c).2.trans ?_, (h.1 c).1⟩) (Cert.ReferenceIdeal.Hand.run (F := Ideal) m' g')⟩
  rw [(same c).2.1, (same c).2.2]
  exact (Cert.KernelIdeal.Hand.res_eq_out _ _).symm

/-- All that is claimed. -/
theorem claim : Cert.Claim :=
  ⟨Cert.Kernel.Gen.facts, Cert.KernelIdeal.Gen.facts, Cert.ReferenceIdeal.Gen.facts,
    frame_kernel, frame_kernel_ideal, frame_reference, trivial, same_result⟩

end Cert.Proof

end
